-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_soft_masks [hPre_soft_masks : Cert.Pre_soft_masks.Facts] (m : (ℓ : Loc Cert.KernelIdeal.nD Cert.KernelIdeal.τ Cert.KernelIdeal.sig) → Buf (Elt Ideal) ℓ) : Prop :=
  ∀ c : Dev Cert.KernelIdeal.nD,
    (Cert.Pre_soft_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_soft_masks [hPre_soft_masks : Cert.Pre_soft_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_soft_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_soft_masks [hKernelIdeal : Cert.KernelIdeal.Facts] [hPre_soft_masks : Cert.Pre_soft_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_soft_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_soft_masks [hReferenceIdeal : Cert.ReferenceIdeal.Facts] [hPre_soft_masks : Cert.Pre_soft_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_soft_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_soft_masks [hKernelIdeal : Cert.KernelIdeal.Facts] [hReferenceIdeal : Cert.ReferenceIdeal.Facts] [hPre_soft_masks : Cert.Pre_soft_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_soft_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_soft_masks : Cert.Pre_soft_masks.Facts),
    quiescent_Kernel (hKernel := hKernel)
    ∧ quiescent_KernelIdeal (hKernelIdeal := hKernelIdeal)
    ∧ quiescent_KernelIdeal_pre_soft_masks (hKernelIdeal := hKernelIdeal) (hPre_soft_masks := hPre_soft_masks)
    ∧ quiescent_ReferenceIdeal (hReferenceIdeal := hReferenceIdeal)
    ∧ quiescent_ReferenceIdeal_pre_soft_masks (hReferenceIdeal := hReferenceIdeal) (hPre_soft_masks := hPre_soft_masks)
    ∧ preserves_Kernel_KernelIdeal
    ∧ algebraic_KernelIdeal_ReferenceIdeal_pre_soft_masks (hKernelIdeal := hKernelIdeal) (hReferenceIdeal := hReferenceIdeal) (hPre_soft_masks := hPre_soft_masks)
-- ==== Pre_soft_masks.lean ====
abbrev S8x384x384 : Shape := ⟨3, ![8, 384, 384]⟩
abbrev S_ : Shape := ⟨0, ![]⟩

class Facts : Prop where
  bcast_S_S8x384x384 : S_.BroadcastsInDim S8x384x384 (![] : Fin 0 → Fin S8x384x384.rank)

variable [Facts]

def fn {F : FTy → Type} [FloatOps F] (main_arg0 : FVec F S8x384x384 .f32) (main_arg1 : FVec F S8x384x384 .f32) (main_arg2 : FVec F S8x384x384 .f32) (main_arg3 : FVec F S8x384x384 .f32) (main_arg4 : FVec F S8x384x384 .f32) (main_arg5 : FVec F S8x384x384 .f32) (main_arg6 : FVec F S8x384x384 .f32) : IVec S8x384x384 1 :=
  let main_cst : FVec F S_ .f32 := constant S_ .f32 0x00000000#32
  let main_v0 : FVec F S8x384x384 .f32 := broadcastInDim S8x384x384 ![] bcast_S_S8x384x384 main_cst
  let main_v1 : IVec S8x384x384 1 := cmpf .oge main_arg6 main_v0
  let main_cst_0 : FVec F S_ .f32 := constant S_ .f32 0x3F800000#32
  let main_v2 : FVec F S8x384x384 .f32 := broadcastInDim S8x384x384 ![] bcast_S_S8x384x384 main_cst_0
  let main_v3 : IVec S8x384x384 1 := cmpf .ole main_arg6 main_v2
  let main_v4 : IVec S8x384x384 1 := andi main_v1 main_v3
  let main_cst_1 : FVec F S_ .f32 := constant S_ .f32 0x3F800000#32
  let main_v5 : FVec F S8x384x384 .f32 := broadcastInDim S8x384x384 ![] bcast_S_S8x384x384 main_cst_1
  let main_v6 : FVec F S8x384x384 .f32 := subf main_v5 main_arg6
  let main_v7 : IVec S8x384x384 1 := cmpf .oeq main_arg5 main_v6
  let main_v8 : IVec S8x384x384 1 := andi main_v4 main_v7
  main_v8
-- ==== Kernel.lean ====
abbrev S8x384x384 : Shape := ⟨3, ![8, 384, 384]⟩
abbrev S1 : Shape := ⟨1, ![1]⟩
abbrev S2x384x384 : Shape := ⟨3, ![2, 384, 384]⟩
abbrev S2 : Shape := ⟨1, ![2]⟩
abbrev S2x1x1 : Shape := ⟨3, ![2, 1, 1]⟩
abbrev S1x2x384x384 : Shape := ⟨4, ![1, 2, 384, 384]⟩
abbrev S1x1x1x1 : Shape := ⟨4, ![1, 1, 1, 1]⟩
abbrev S_ : Shape := ⟨0, ![]⟩

abbrev nBuf : Space → Nat
  | .hbm => 12
  | .vmem => 18
  | .smem => 2
  | _ => 0

abbrev bufTy : (tb : Table) → Fin (tcTables nBuf tb) → BufTy
  | .hbm, ⟨0, _⟩ => ⟨S8x384x384, .f32⟩
  | .hbm, ⟨1, _⟩ => ⟨S8x384x384, .f32⟩
  | .hbm, ⟨2, _⟩ => ⟨S8x384x384, .f32⟩
  | .hbm, ⟨3, _⟩ => ⟨S8x384x384, .f32⟩
  | .hbm, ⟨4, _⟩ => ⟨S8x384x384, .f32⟩
  | .hbm, ⟨5, _⟩ => ⟨S8x384x384, .f32⟩
  | .hbm, ⟨6, _⟩ => ⟨S8x384x384, .f32⟩
  | .hbm, ⟨7, _⟩ => ⟨S1, .f32⟩
  | .hbm, ⟨8, _⟩ => ⟨S8x384x384, .f32⟩
  | .hbm, ⟨9, _⟩ => ⟨S8x384x384, .f32⟩
  | .hbm, ⟨10, _⟩ => ⟨S8x384x384, .f32⟩
  | .hbm, ⟨11, _⟩ => ⟨S_, .f32⟩
  | .local _ .vmem, ⟨0, _⟩ => ⟨S2x384x384, .f32⟩
  | .local _ .vmem, ⟨1, _⟩ => ⟨S2x384x384, .f32⟩
  | .local _ .vmem, ⟨2, _⟩ => ⟨S2x384x384, .f32⟩
  | .local _ .vmem, ⟨3, _⟩ => ⟨S2x384x384, .f32⟩
  | .local _ .vmem, ⟨4, _⟩ => ⟨S2x384x384, .f32⟩
  | .local _ .vmem, ⟨5, _⟩ => ⟨S2x384x384, .f32⟩
  | .local _ .vmem, ⟨6, _⟩ => ⟨S2x384x384, .f32⟩
  | .local _ .vmem, ⟨7, _⟩ => ⟨S2x384x384, .f32⟩
  | .local _ .vmem, ⟨8, _⟩ => ⟨S2x384x384, .f32⟩
  | .local _ .vmem, ⟨9, _⟩ => ⟨S2x384x384, .f32⟩
  | .local _ .vmem, ⟨10, _⟩ => ⟨S2x384x384, .f32⟩
  | .local _ .vmem, ⟨11, _⟩ => ⟨S2x384x384, .f32⟩
  | .local _ .vmem, ⟨12, _⟩ => ⟨S2x384x384, .f32⟩
  | .local _ .vmem, ⟨13, _⟩ => ⟨S2x384x384, .f32⟩
  | .local _ .vmem, ⟨14, _⟩ => ⟨S2x384x384, .f32⟩
  | .local _ .vmem, ⟨15, _⟩ => ⟨S2x384x384, .f32⟩
  | .local _ .vmem, ⟨16, _⟩ => ⟨S2x384x384, .f32⟩
  | .local _ .vmem, ⟨17, _⟩ => ⟨S2x384x384, .f32⟩
  | .local _ .smem, ⟨0, _⟩ => ⟨S1, .f32⟩
  | .local _ .smem, ⟨1, _⟩ => ⟨S2, .f32⟩
  | _, _ => ⟨S8x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg6_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v50 : BitVec 1 := Scalar.cmpi .eq arg0 c3_i32
  let v51 : BitVec 32 := Scalar.extui v50
  let c0_i32_37 : BitVec 32 := 0#32
  let v52 : BitVec 1 := Scalar.cmpi .ne v51 c0_i32_37
  v52

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x384x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x384x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x384x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x384x384 : Shape := ⟨3, ![8, 384, 384]⟩
abbrev S_ : Shape := ⟨0, ![]⟩
abbrev S8 : Shape := ⟨1, ![8]⟩
abbrev S8x147456 : Shape := ⟨2, ![8, 147456]⟩
abbrev S8x1 : Shape := ⟨2, ![8, 1]⟩
abbrev S1 : Shape := ⟨1, ![1]⟩
abbrev S1x1 : Shape := ⟨2, ![1, 1]⟩
abbrev S8x1x1 : Shape := ⟨3, ![8, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x384x384, .f32⟩
  | .hbm, ⟨1, _⟩ => ⟨S8x384x384, .f32⟩
  | .hbm, ⟨2, _⟩ => ⟨S8x384x384, .f32⟩
  | .hbm, ⟨3, _⟩ => ⟨S8x384x384, .f32⟩
  | .hbm, ⟨4, _⟩ => ⟨S8x384x384, .f32⟩
  | .hbm, ⟨5, _⟩ => ⟨S8x384x384, .f32⟩
  | .hbm, ⟨6, _⟩ => ⟨S8x384x384, .f32⟩
  | .hbm, ⟨7, _⟩ => ⟨S_, .f32⟩
  | .hbm, ⟨8, _⟩ => ⟨S8x384x384, .f32⟩
  | .hbm, ⟨9, _⟩ => ⟨S8x384x384, .i1⟩
  | .hbm, ⟨10, _⟩ => ⟨S_, .f32⟩
  | .hbm, ⟨11, _⟩ => ⟨S8x384x384, .f32⟩
  | .hbm, ⟨12, _⟩ => ⟨S8x384x384, .f32⟩
  | .hbm, ⟨13, _⟩ => ⟨S8x384x384, .f32⟩
  | .hbm, ⟨14, _⟩ => ⟨S8x384x384, .f32⟩
  | .hbm, ⟨15, _⟩ => ⟨S8x384x384, .f32⟩
  | .hbm, ⟨16, _⟩ => ⟨S8x384x384, .f32⟩
  | .hbm, ⟨17, _⟩ => ⟨S8x384x384, .f32⟩
  | .hbm, ⟨18, _⟩ => ⟨S8x384x384, .f32⟩
  | .hbm, ⟨19, _⟩ => ⟨S8x384x384, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8x384x384, .f32⟩
  | .hbm, ⟨34, _⟩ => ⟨S8x147456, .f32⟩
  | .hbm, ⟨35, _⟩ => ⟨S8x147456, .f32⟩
  | .hbm, ⟨36, _⟩ => ⟨S8x147456, .f32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S8x1, .i32⟩
  | .hbm, ⟨56, _⟩ => ⟨S1, .i32⟩
  | .hbm, ⟨57, _⟩ => ⟨S_, .i32⟩
  | .hbm, ⟨58, _⟩ => ⟨S8x1, .i32⟩
  | .hbm, ⟨59, _⟩ => ⟨S8x1, .i1⟩
  | .hbm, ⟨60, _⟩ => ⟨S1x1, .i32⟩
  | .hbm, ⟨61, _⟩ => ⟨S8x1, .i32⟩
  | .hbm, ⟨62, _⟩ => ⟨S8x1, .i1⟩
  | .hbm, ⟨63, _⟩ => ⟨S8x1, .i1⟩
  | .hbm, ⟨64, _⟩ => ⟨S_, .i1⟩
  | .hbm, ⟨65, _⟩ => ⟨S8, .i1⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8x384x384, .f32⟩
  | .hbm, ⟨72, _⟩ => ⟨S8x384x384, .i1⟩
  | .hbm, ⟨73, _⟩ => ⟨S8x384x384, .i1⟩
  | .hbm, ⟨74, _⟩ => ⟨S8x1x1, .f32⟩
  | .hbm, ⟨75, _⟩ => ⟨S8x384x384, .f32⟩
  | .hbm, ⟨76, _⟩ => ⟨S8x384x384, .i1⟩
  | .hbm, ⟨77, _⟩ => ⟨S8x384x384, .i1⟩
  | .hbm, ⟨78, _⟩ => ⟨S8x384x384, .f32⟩
  | .hbm, ⟨79, _⟩ => ⟨S8x384x384, .f32⟩
  | .hbm, ⟨80, _⟩ => ⟨S8x384x384, .f32⟩
  | .hbm, ⟨81, _⟩ => ⟨S_, .f32⟩
  | .hbm, ⟨82, _⟩ => ⟨S_, .f32⟩
  | .hbm, ⟨83, _⟩ => ⟨S8x384x384, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v26 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v27 : Ref sig .tc := ⟨.hbm, 69, rfl⟩
abbrev main_cst_7 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_8 : Ref sig .tc := ⟨.hbm, 81, rfl⟩
abbrev main_v38 : Ref sig .tc := ⟨.hbm, 82, rfl⟩
abbrev main_v39 : Ref sig .tc := ⟨.hbm, 83, rfl⟩
abbrev main_cst_9 : Ref sig .tc := ⟨.hbm, 84, rfl⟩
abbrev main_v40 : Ref sig .tc := ⟨.hbm, 85, rfl⟩
abbrev main_cst_10 : Ref sig .tc := ⟨.hbm, 86, rfl⟩
abbrev main_v41 : Ref sig .tc := ⟨.hbm, 87, rfl⟩
abbrev main_v42 : Ref sig .tc := ⟨.hbm, 88, rfl⟩

abbrev nD : Nat := 1
abbrev τ : Topo := Topo.v7x

variable {F : FTy → Type} [FloatOps F]
-- ==== Proof.Cases.lean ====
/-
  What one run of the kernel's body leaves in each output buffer and in the scratch, in the three cases the body
  distinguishes: the first grid point (the two running sums are set), a middle one (they are added to), the last one
  (they are added to and their quotient is stored).  A grid point holds two of the eight maps; `x0` … `x5` are its blocks
  of the true and predicted character heat maps, the confidence and the background weights, in the kernel's order.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Craft

open Cert.KernelIdeal Cert.KernelIdeal.Gen Idealize.ShloMosaic Idealize.ShloMosaic.TcCoe Idealize.SL.Sem

variable {F : FTy → Type} [FloatOps F]

theorem zero1 : (![0] : Fin 1 → Nat) = fun _ => 0 := funext fun a => by fin_cases a; rfl

theorem zero3 : (![0, 0, 0] : Fin 3 → Nat) = fun _ => 0 := funext fun a => by fin_cases a <;> rfl

/-! ## The values of one grid point -/

/-- The hard-background mask of two maps: 1 where the weight is nonzero and the loss reaches its map's maximum, else 0. -/
def hardBlock (x0 x1 x2 x3 x4 x5 : Vec F S2x384x384 .f32) : Vec F S2x384x384 .f32 :=
  k0_pay1 (k0_pay12 x4 x0 x2 x1 x3 x5) (FloatOps.ofBits .f32 0x3F800000#32) (FloatOps.ofBits .f32 0x00000000#32)

/-- The block's part of the loss's numerator. -/
def numBlock (x0 x1 x2 x3 x4 x5 : Vec F S2x384x384 .f32) : F .f32 :=
  k0_pay3 (k0_pay11 x4 x0 x2 x1 x3) x5 (k0_pay12 x4 x0 x2 x1 x3 x5) (FloatOps.ofBits .f32 0x3F800000#32)
    (FloatOps.ofBits .f32 0x00000000#32)

/-- The block's part of the loss's denominator. -/
def denBlock (x0 x1 x2 x3 x4 x5 : Vec F S2x384x384 .f32) : F .f32 :=
  k0_pay4 (k0_pay8 x4) x5 (k0_pay12 x4 x0 x2 x1 x3 x5) (FloatOps.ofBits .f32 0x3F800000#32)
    (FloatOps.ofBits .f32 0x00000000#32)

/-! ## The two-word scratch -/

/-- A two-word vector from its words. -/
def pair (a b : F .f32) : Vec F S2 .f32 := fun i => if (i 0).val = 0 then a else b

theorem numel_one : 0 < (⟨1, ![1]⟩ : Shape).numel := by decide

/-- The scratch's first word. -/
def fstWord (x : Vec F S2 .f32) : F .f32 := View.ld x (Rect.unit ![0] ![1] inb_S2_S1_0) (Shape.Idx.first numel_one)

/-- The scratch's second word. -/
def sndWord (x : Vec F S2 .f32) : F .f32 := View.ld x (Rect.unit ![1] ![1] inb_S2_S1_1) (Shape.Idx.first numel_one)

theorem fstWord_pair (a b : F .f32) : fstWord (pair a b) = a := rfl

theorem sndWord_pair (a b : F .f32) : sndWord (pair a b) = b := rfl

/-- Storing the second word over the first leaves the pair. -/
theorem canon_pair (a b : F .f32) :
    View.canon (Val := Elt F) (s := S2) (e := .f32)
      [⟨Rect.unit ![1] ![1] inb_S2_S1_1, fun _ => b⟩, ⟨Rect.unit ![0] ![1] inb_S2_S1_0, fun _ => a⟩] = pair a b := by
  funext y
  have hy : (y 0).val < 2 := (y 0).isLt
  by_cases h : (y 0).val = 0
  · rw [View.canon_cons_of_not_mem]
    · have e : y = (Rect.unit ![0] ![1] inb_S2_S1_0 : Rect S2).emb (fun a => match a with | ⟨0, _⟩ => ⟨0, Nat.one_pos⟩) :=
        funext fun a => by fin_cases a; exact Fin.ext h
      rw [e, View.canon_cons_emb]
      rfl
    · show y ∉ (Rect.unit ![1] ![1] inb_S2_S1_1 : Rect S2).set
      rw [Rect.mem_set_unit]
      intro hm
      have h1 := (hm 0).1
      simp only [Matrix.cons_val_zero] at h1
      omega
  · have e : y = (Rect.unit ![1] ![1] inb_S2_S1_1 : Rect S2).emb (fun a => match a with | ⟨0, _⟩ => ⟨0, Nat.one_pos⟩) :=
      funext fun a => by fin_cases a; exact Fin.ext (show (y 0).val = 1 by omega)
    rw [e, View.canon_cons_emb]
    rfl

/-! ## What each case leaves -/

/-- At the first grid point the region loss block is stored. -/
theorem region_A (c i a1 h1 a2 h2 a3 h3 a4 h4 a5 h5 a6 h6 a7 h7 a8 h8 a9 h9 a10 h10 a11 h11 hc0 hc1 hc2)
    (x0 x1 x2 x3 x4 x5 : Vec F S2x384x384 .f32) :
    out0_A_7 (F := F) c i a1 h1 a2 h2 a3 h3 a4 h4 a5 h5 a6 h6 a7 h7 a8 h8 a9 h9 a10 h10 a11 h11 hc0 hc1 hc2 x0 x1 x2 x3 x4 x5
      = k0_pay9 x4 x0 x2 := by
  unfold out0_A_7
  rw [View.read_writes_eq_canon _ _ _ (cover0_A_7 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread,
    h6.read_unread, View.ld_unit_zero (S := S2x384x384) zero3]
  rw [View.canon_unit_zero zero3]

/-- At the first grid point the affinity loss block is stored. -/
theorem affinity_A (c i a1 h1 a2 h2 a3 h3 a4 h4 a5 h5 a6 h6 a7 h7 a8 h8 a9 h9 a10 h10 a11 h11 hc0 hc1 hc2)
    (x0 x1 x2 x3 x4 x5 : Vec F S2x384x384 .f32) :
    out0_A_8 (F := F) c i a1 h1 a2 h2 a3 h3 a4 h4 a5 h5 a6 h6 a7 h7 a8 h8 a9 h9 a10 h10 a11 h11 hc0 hc1 hc2 x0 x1 x2 x3 x4 x5
      = k0_pay10 x4 x1 x3 := by
  unfold out0_A_8
  rw [View.read_writes_eq_canon _ _ _ (cover0_A_8 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread,
    h6.read_unread, View.ld_unit_zero (S := S2x384x384) zero3]
  rw [View.canon_unit_zero zero3]

/-- At the first grid point the hard-background block is stored. -/
theorem hard_A (c i a1 h1 a2 h2 a3 h3 a4 h4 a5 h5 a6 h6 a7 h7 a8 h8 a9 h9 a10 h10 a11 h11 hc0 hc1 hc2)
    (x0 x1 x2 x3 x4 x5 : Vec F S2x384x384 .f32) :
    out0_A_9 (F := F) c i a1 h1 a2 h2 a3 h3 a4 h4 a5 h5 a6 h6 a7 h7 a8 h8 a9 h9 a10 h10 a11 h11 hc0 hc1 hc2 x0 x1 x2 x3 x4 x5
      = hardBlock x0 x1 x2 x3 x4 x5 := by
  unfold out0_A_9
  rw [View.read_writes_eq_canon _ _ _ (cover0_A_9 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread,
    h6.read_unread, View.ld_unit_zero (S := S2x384x384) zero3]
  rw [View.canon_unit_zero zero3]
  rfl

/-- At the first grid point the running sums are set. -/
theorem sums_A (c i a1 h1 a2 h2 a3 h3 a4 h4 a5 h5 a6 h6 a7 h7 a8 h8 a9 h9 a10 h10 a11 h11 hc0 hc1 hc2)
    (x0 x1 x2 x3 x4 x5 : Vec F S2x384x384 .f32) :
    sout0_A_0 (F := F) c i a1 h1 a2 h2 a3 h3 a4 h4 a5 h5 a6 h6 a7 h7 a8 h8 a9 h9 a10 h10 a11 h11 hc0 hc1 hc2 x0 x1 x2 x3 x4 x5
      = pair (numBlock x0 x1 x2 x3 x4 x5) (denBlock x0 x1 x2 x3 x4 x5) := by
  unfold sout0_A_0
  rw [View.read_writes_eq_canon _ _ _ (scover0_A_0 c i a1 h1 a2 h2 a3 h3 a4 h4 a5 h5 a6 h6 a7 h7 a8 h8 a9 h9 a10 h10 a11 h11 hc0 hc1 hc2 x0 x1 x2 x3 x4 x5)]
  unfold kernelRun0_A
  dsimp only
  sl_unfold_words
  simp only [View.readAt_eq_ld, h1.read_unread, h2.read_unread, h3.read_unread, h4.read_unread, h5.read_unread,
    h6.read_unread, View.ld_unit_zero (S := S2x384x384) zero3]
  exact canon_pair _ _

/-- At a middle grid point the region loss block is stored. -/
theorem region_B (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_B_7 (F := F) c i a1 h1 a2 h2 a3 h3 a4 h4 a5 h5 a6 h6 a7 h7 a8 h8 a9 h9 a10 h10 a11 h11 hc0 hc1 hc2 x0 x1 x2 x3 x4 x5 xs
      = k0_pay9 x4 x0 x2 := by
  unfold out0_B_7
  rw [View.read_writes_eq_canon _ _ _ (cover0_B_7 c i a1 h1 a2 h2 a3 h3 a4 h4 a5 h5 a6 h6 a7 h7 a8 h8 a9 h9 a10 h10 a11 h11 hc0 hc1 hc2 x0 x1 x2 x3 x4 x5 xs)]
  unfold kernelRun0_B
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]

/-- At a middle grid point the affinity loss block is stored. -/
theorem affinity_B (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_B_8 (F := F) c i a1 h1 a2 h2 a3 h3 a4 h4 a5 h5 a6 h6 a7 h7 a8 h8 a9 h9 a10 h10 a11 h11 hc0 hc1 hc2 x0 x1 x2 x3 x4 x5 xs
      = k0_pay10 x4 x1 x3 := by
  unfold out0_B_8
  rw [View.read_writes_eq_canon _ _ _ (cover0_B_8 c i a1 h1 a2 h2 a3 h3 a4 h4 a5 h5 a6 h6 a7 h7 a8 h8 a9 h9 a10 h10 a11 h11 hc0 hc1 hc2 x0 x1 x2 x3 x4 x5 xs)]
  unfold kernelRun0_B
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]

/-- At a middle grid point the hard-background block is stored. -/
theorem hard_B (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_B_9 (F := F) c i a1 h1 a2 h2 a3 h3 a4 h4 a5 h5 a6 h6 a7 h7 a8 h8 a9 h9 a10 h10 a11 h11 hc0 hc1 hc2 x0 x1 x2 x3 x4 x5 xs
      = hardBlock x0 x1 x2 x3 x4 x5 := by
  unfold out0_B_9
  rw [View.read_writes_eq_canon _ _ _ (cover0_B_9 c i a1 h1 a2 h2 a3 h3 a4 h4 a5 h5 a6 h6 a7 h7 a8 h8 a9 h9 a10 h10 a11 h11 hc0 hc1 hc2 x0 x1 x2 x3 x4 x5 xs)]
  unfold kernelRun0_B
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]
  rfl

/-- At a middle grid point the block is added to the running sums. -/
theorem sums_B (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    sout0_B_0 (F := F) c i a1 h1 a2 h2 a3 h3 a4 h4 a5 h5 a6 h6 a7 h7 a8 h8 a9 h9 a10 h10 a11 h11 hc0 hc1 hc2 x0 x1 x2 x3 x4 x5 xs
      = pair (Scalar.addf (fstWord xs) (numBlock x0 x1 x2 x3 x4 x5)) (Scalar.addf (sndWord xs) (denBlock x0 x1 x2 x3 x4 x5)) := by
  unfold sout0_B_0
  rw [View.read_writes_eq_canon _ _ _ (scover0_B_0 c i a1 h1 a2 h2 a3 h3 a4 h4 a5 h5 a6 h6 a7 h7 a8 h8 a9 h9 a10 h10 a11 h11 hc0 hc1 hc2 x0 x1 x2 x3 x4 x5 xs)]
  unfold kernelRun0_B
  dsimp only
  sl_unfold_words
  simp only [View.readAt_eq_ld, h1.read_unread, h2.read_unread, h3.read_unread, h4.read_unread, h5.read_unread,
    h6.read_unread, h11.read_unread, View.ld_unit_zero (S := S2x384x384) zero3]
  exact canon_pair _ _

/-- At the last grid point the region loss block is stored. -/
theorem region_C (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_C_7 (F := F) c i a1 h1 a2 h2 a3 h3 a4 h4 a5 h5 a6 h6 a7 h7 a8 h8 a9 h9 a10 h10 a11 h11 hc0 hc1 hc2 x0 x1 x2 x3 x4 x5 xs
      = k0_pay9 x4 x0 x2 := by
  unfold out0_C_7
  rw [View.read_writes_eq_canon _ _ _ (cover0_C_7 c i a1 h1 a2 h2 a3 h3 a4 h4 a5 h5 a6 h6 a7 h7 a8 h8 a9 h9 a10 h10 a11 h11 hc0 hc1 hc2 x0 x1 x2 x3 x4 x5 xs)]
  unfold kernelRun0_C
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]

/-- At the last grid point the affinity loss block is stored. -/
theorem affinity_C (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_C_8 (F := F) c i a1 h1 a2 h2 a3 h3 a4 h4 a5 h5 a6 h6 a7 h7 a8 h8 a9 h9 a10 h10 a11 h11 hc0 hc1 hc2 x0 x1 x2 x3 x4 x5 xs
      = k0_pay10 x4 x1 x3 := by
  unfold out0_C_8
  rw [View.read_writes_eq_canon _ _ _ (cover0_C_8 c i a1 h1 a2 h2 a3 h3 a4 h4 a5 h5 a6 h6 a7 h7 a8 h8 a9 h9 a10 h10 a11 h11 hc0 hc1 hc2 x0 x1 x2 x3 x4 x5 xs)]
  unfold kernelRun0_C
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]

/-- At the last grid point the hard-background block is stored. -/
theorem hard_C (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_C_9 (F := F) c i a1 h1 a2 h2 a3 h3 a4 h4 a5 h5 a6 h6 a7 h7 a8 h8 a9 h9 a10 h10 a11 h11 hc0 hc1 hc2 x0 x1 x2 x3 x4 x5 xs
      = hardBlock x0 x1 x2 x3 x4 x5 := by
  unfold out0_C_9
  rw [View.read_writes_eq_canon _ _ _ (cover0_C_9 c i a1 h1 a2 h2 a3 h3 a4 h4 a5 h5 a6 h6 a7 h7 a8 h8 a9 h9 a10 h10 a11 h11 hc0 hc1 hc2 x0 x1 x2 x3 x4 x5 xs)]
  unfold kernelRun0_C
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero3]
  rfl

/-- At the last grid point the block is added to the running sums. -/
theorem sums_C (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    sout0_C_0 (F := F) c i a1 h1 a2 h2 a3 h3 a4 h4 a5 h5 a6 h6 a7 h7 a8 h8 a9 h9 a10 h10 a11 h11 hc0 hc1 hc2 x0 x1 x2 x3 x4 x5 xs
      = pair (Scalar.addf (fstWord xs) (numBlock x0 x1 x2 x3 x4 x5)) (Scalar.addf (sndWord xs) (denBlock x0 x1 x2 x3 x4 x5)) := by
  unfold sout0_C_0
  rw [View.read_writes_eq_canon _ _ _ (scover0_C_0 c i a1 h1 a2 h2 a3 h3 a4 h4 a5 h5 a6 h6 a7 h7 a8 h8 a9 h9 a10 h10 a11 h11 hc0 hc1 hc2 x0 x1 x2 x3 x4 x5 xs)]
  unfold kernelRun0_C
  dsimp only
  sl_unfold_words
  simp only [View.readAt_eq_ld, h1.read_unread, h2.read_unread, h3.read_unread, h4.read_unread, h5.read_unread,
    h6.read_unread, h11.read_unread, View.ld_unit_zero (S := S2x384x384) zero3]
  exact canon_pair _ _

/-- At the last grid point the quotient of the finished sums is stored. -/
theorem loss_C (c i a1 h1 a2 h2 a3 h3 a4 h4 a5 h5 a6 h6 a7 h7 a8 h8 a9 h9 a10 h10 a11 h11 hc0 hc1 hc2)
    (x0 x1 x2 x3 x4 x5 : Vec F S2x384x384 .f32) (xs : Vec F S2 .f32) :
    out0_C_6 (F := F) c i a1 h1 a2 h2 a3 h3 a4 h4 a5 h5 a6 h6 a7 h7 a8 h8 a9 h9 a10 h10 a11 h11 hc0 hc1 hc2 x0 x1 x2 x3 x4 x5 xs
      = fun _ => k0_pay7 (Scalar.addf (fstWord xs) (numBlock x0 x1 x2 x3 x4 x5)) (Scalar.addf (sndWord xs) (denBlock x0 x1 x2 x3 x4 x5)) := by
  unfold out0_C_6
  rw [View.read_writes_eq_canon _ _ _ (cover0_C_6 c i a1 h1 a2 h2 a3 h3 a4 h4 a5 h5 a6 h6 a7 h7 a8 h8 a9 h9 a10 h10 a11 h11 hc0 hc1 hc2 x0 x1 x2 x3 x4 x5 xs)]
  unfold kernelRun0_C
  dsimp only
  sl_unfold_words
  simp only [View.readAt_eq_ld, h1.read_unread, h2.read_unread, h3.read_unread, h4.read_unread, h5.read_unread,
    h6.read_unread, h11.read_unread, View.ld_unit_zero (S := S2x384x384) zero3]
  rw [View.canon_unit_zero zero1]
  rfl

end Cert.KernelIdeal.Craft

end
-- ==== Proof.Arrays.lean ====
/-
  What the kernel's four result arrays hold after the run.  Grid point `t` works on maps `2t` and `2t + 1`; the three
  map-shaped results are the points' blocks put side by side, and the loss is the quotient of the two sums over the
  four points, in the order the points run.
-/
module

public import proofs.«01_k».proof.Proof.Cases
public import Idealize.ShloMosaic.Lib.Pipeline.ValueKit
public import Idealize.ShloMosaic.Lib.StableHlo.Run

@[expose] public section

set_option maxRecDepth 16384

noncomputable section

namespace Cert.KernelIdeal.Craft

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Two maps of the eight -/

/-- Where element `y` of grid point `t`'s block lies in the whole array. -/
def put (t : Fin 4) (y : S2x384x384.Idx) : S8x384x384.Idx :=
  ix3 ⟨2 * t.val + (y 0).val, by have h : (y 0).val < 2 := (y 0).isLt; have := t.isLt; omega⟩ (y 1) (y 2)

/-- Maps `2t` and `2t + 1` of an array. -/
def blockAt {α : Type} (x : S8x384x384.Idx → α) (t : Fin 4) : S2x384x384.Idx → α := fun y => x (put t y)

/-- The grid point whose block holds an element. -/
def point (i : S8x384x384.Idx) : Fin 4 := ⟨(i 0).val / 2, by have h : (i 0).val < 8 := (i 0).isLt; omega⟩

/-- Its place in that block. -/
def place (i : S8x384x384.Idx) : S2x384x384.Idx := ix3 ⟨(i 0).val % 2, by omega⟩ (i 1) (i 2)

theorem put_point_place (i : S8x384x384.Idx) : put (point i) (place i) = i := by
  have e : i = ix3 (i 0) (i 1) (i 2) := eq_ix3 i
  conv_rhs => rw [e]
  unfold put point place
  congr 1
  apply Fin.ext
  show 2 * ((i 0).val / 2) + (i 0).val % 2 = (i 0).val
  omega

theorem point_put (t : Fin 4) (y : S2x384x384.Idx) : point (put t y) = t := by
  have h : (y 0).val < 2 := (y 0).isLt
  apply Fin.ext
  show (2 * t.val + (y 0).val) / 2 = t.val
  omega

theorem place_put (t : Fin 4) (y : S2x384x384.Idx) : place (put t y) = y := by
  have h : (y 0).val < 2 := (y 0).isLt
  conv_rhs => rw [eq_ix3 y]
  unfold place put
  congr 1
  apply Fin.ext
  show (2 * t.val + (y 0).val) % 2 = (y 0).val
  omega

/-- Four blocks put side by side. -/
def glue {α : Type} (B : Fin 4 → S2x384x384.Idx → α) : S8x384x384.Idx → α := fun i => B (point i) (place i)

theorem glue_put {α : Type} (B : Fin 4 → S2x384x384.Idx → α) (t : Fin 4) (y : S2x384x384.Idx) :
    glue B (put t y) = B t y := by
  unfold glue
  rw [point_put, place_put]

/-! ## The blocks the grid points read -/

/-- A grid position as one of the four points. -/
def pt (t : Fin cfg0.N) : Fin 4 := ⟨t.val, lt_of_lt_of_eq t.isLt N_0⟩

theorem index_rows : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_7.index t = ![t.val, 0, 0] ∧ win0_8.index t = ![t.val, 0, 0] ∧ win0_9.index t = ![t.val, 0, 0] :=
  (by decide +kernel : ∀ t : Fin grid0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_7.index t = ![t.val, 0, 0] ∧ win0_8.index t = ![t.val, 0, 0] ∧ win0_9.index t = ![t.val, 0, 0])

/-- Output window 7 puts grid point `t`'s block at maps `2t` and `2t + 1`. -/
theorem emb7 (t : Fin cfg0.N) (y : S2x384x384.Idx) : ((cfg0.win 7).blk t).view.emb y = put (pt t) y := by
  obtain ⟨-, -, -, -, -, -, e, -, -⟩ := index_rows t
  funext a
  apply Fin.ext
  fin_cases a <;> blk_simp [e] <;> simp [put, pt, ix3] <;> omega

/-- Output window 8 puts grid point `t`'s block at maps `2t` and `2t + 1`. -/
theorem emb8 (t : Fin cfg0.N) (y : S2x384x384.Idx) : ((cfg0.win 8).blk t).view.emb y = put (pt t) y := by
  obtain ⟨-, -, -, -, -, -, -, e, -⟩ := index_rows t
  funext a
  apply Fin.ext
  fin_cases a <;> blk_simp [e] <;> simp [put, pt, ix3] <;> omega

/-- Output window 9 puts grid point `t`'s block at maps `2t` and `2t + 1`. -/
theorem emb9 (t : Fin cfg0.N) (y : S2x384x384.Idx) : ((cfg0.win 9).blk t).view.emb y = put (pt t) y := by
  obtain ⟨-, -, -, -, -, -, -, -, e⟩ := index_rows t
  funext a
  apply Fin.ext
  fin_cases a <;> blk_simp [e] <;> simp [put, pt, ix3] <;> omega

/-- Input window 0 reads its argument's maps `2t` and `2t + 1` at grid point `t`. -/
theorem iblk0 (c : Dev nD) (t : Fin cfg0.N) :
    (iblk m c 0 t : Vec F S2x384x384 .f32) = blockAt (m ((c : Thread nD τ).loc main_arg0)) (pt t) := by
  obtain ⟨e, -, -, -, -, -, -, -, -⟩ := index_rows t
  funext y
  unfold blockAt
  blk_ext [iblk, V, e, put, pt]

/-- Input window 1 reads its argument's maps `2t` and `2t + 1` at grid point `t`. -/
theorem iblk1 (c : Dev nD) (t : Fin cfg0.N) :
    (iblk m c 1 t : Vec F S2x384x384 .f32) = blockAt (m ((c : Thread nD τ).loc main_arg1)) (pt t) := by
  obtain ⟨-, e, -, -, -, -, -, -, -⟩ := index_rows t
  funext y
  unfold blockAt
  blk_ext [iblk, V, e, put, pt]

/-- Input window 2 reads its argument's maps `2t` and `2t + 1` at grid point `t`. -/
theorem iblk2 (c : Dev nD) (t : Fin cfg0.N) :
    (iblk m c 2 t : Vec F S2x384x384 .f32) = blockAt (m ((c : Thread nD τ).loc main_arg2)) (pt t) := by
  obtain ⟨-, -, e, -, -, -, -, -, -⟩ := index_rows t
  funext y
  unfold blockAt
  blk_ext [iblk, V, e, put, pt]

/-- Input window 3 reads its argument's maps `2t` and `2t + 1` at grid point `t`. -/
theorem iblk3 (c : Dev nD) (t : Fin cfg0.N) :
    (iblk m c 3 t : Vec F S2x384x384 .f32) = blockAt (m ((c : Thread nD τ).loc main_arg3)) (pt t) := by
  obtain ⟨-, -, -, e, -, -, -, -, -⟩ := index_rows t
  funext y
  unfold blockAt
  blk_ext [iblk, V, e, put, pt]

/-- Input window 4 reads its argument's maps `2t` and `2t + 1` at grid point `t`. -/
theorem iblk4 (c : Dev nD) (t : Fin cfg0.N) :
    (iblk m c 4 t : Vec F S2x384x384 .f32) = blockAt (m ((c : Thread nD τ).loc main_arg4)) (pt t) := by
  obtain ⟨-, -, -, -, e, -, -, -, -⟩ := index_rows t
  funext y
  unfold blockAt
  blk_ext [iblk, V, e, put, pt]

/-- Input window 5 reads its argument's maps `2t` and `2t + 1` at grid point `t`. -/
theorem iblk5 (c : Dev nD) (t : Fin cfg0.N) :
    (iblk m c 5 t : Vec F S2x384x384 .f32) = blockAt (m ((c : Thread nD τ).loc main_arg6)) (pt t) := by
  obtain ⟨-, -, -, -, -, e, -, -, -⟩ := index_rows t
  funext y
  unfold blockAt
  blk_ext [iblk, V, e, put, pt]

/-! ## What each grid point leaves -/

/-- Grid point `t`'s share of the loss's numerator. -/
def numAt (c : Dev nD) (t : Fin 4) : F .f32 :=
  numBlock (blockAt (m ((c : Thread nD τ).loc main_arg0)) t) (blockAt (m ((c : Thread nD τ).loc main_arg1)) t)
    (blockAt (m ((c : Thread nD τ).loc main_arg2)) t) (blockAt (m ((c : Thread nD τ).loc main_arg3)) t)
    (blockAt (m ((c : Thread nD τ).loc main_arg4)) t) (blockAt (m ((c : Thread nD τ).loc main_arg6)) t)

/-- Grid point `t`'s share of the loss's denominator. -/
def denAt (c : Dev nD) (t : Fin 4) : F .f32 :=
  denBlock (blockAt (m ((c : Thread nD τ).loc main_arg0)) t) (blockAt (m ((c : Thread nD τ).loc main_arg1)) t)
    (blockAt (m ((c : Thread nD τ).loc main_arg2)) t) (blockAt (m ((c : Thread nD τ).loc main_arg3)) t)
    (blockAt (m ((c : Thread nD τ).loc main_arg4)) t) (blockAt (m ((c : Thread nD τ).loc main_arg6)) t)

/-- Grid point `t`'s block of the region loss. -/
def regionAt (c : Dev nD) (t : Fin 4) : Vec F S2x384x384 .f32 :=
  k0_pay9 (blockAt (m ((c : Thread nD τ).loc main_arg4)) t) (blockAt (m ((c : Thread nD τ).loc main_arg0)) t)
    (blockAt (m ((c : Thread nD τ).loc main_arg2)) t)

/-- Grid point `t`'s block of the affinity loss. -/
def affinityAt (c : Dev nD) (t : Fin 4) : Vec F S2x384x384 .f32 :=
  k0_pay10 (blockAt (m ((c : Thread nD τ).loc main_arg4)) t) (blockAt (m ((c : Thread nD τ).loc main_arg1)) t)
    (blockAt (m ((c : Thread nD τ).loc main_arg3)) t)

/-- Grid point `t`'s block of the hard-background mask. -/
def hardAt (c : Dev nD) (t : Fin 4) : Vec F S2x384x384 .f32 :=
  hardBlock (blockAt (m ((c : Thread nD τ).loc main_arg0)) t) (blockAt (m ((c : Thread nD τ).loc main_arg1)) t)
    (blockAt (m ((c : Thread nD τ).loc main_arg2)) t) (blockAt (m ((c : Thread nD τ).loc main_arg3)) t)
    (blockAt (m ((c : Thread nD τ).loc main_arg4)) t) (blockAt (m ((c : Thread nD τ).loc main_arg6)) t)

/-- Every grid point leaves its region block, whichever of the three cases it runs. -/
theorem region_at (c : Dev nD) (t : Fin cfg0.N) : (outsAt0 m c t.val t.isLt).2.1 = regionAt m c (pt t) := by
  have hN : t.val < 4 := lt_of_lt_of_eq t.isLt N_0
  unfold regionAt
  simp only [← iblk0 m c t, ← iblk1 m c t, ← iblk2 m c t, ← iblk3 m c t, ← iblk4 m c t, ← iblk5 m c t]
  by_cases h0 : t.val % 4 = 0
  · rw [outsAt0_A m c t h0 (by omega) (by omega)]
    dsimp only
    exact region_A (F := F) ..
  · by_cases h2 : t.val % 4 = 3
    · rw [outsAt0_C m c t h0 (by omega) h2]
      dsimp only
      exact region_C (F := F) ..
    · rw [outsAt0_B m c t h0 (by omega) h2]
      dsimp only
      exact region_B (F := F) ..

/-- Every grid point leaves its affinity block, whichever of the three cases it runs. -/
theorem affinity_at (c : Dev nD) (t : Fin cfg0.N) : (outsAt0 m c t.val t.isLt).2.2.1 = affinityAt m c (pt t) := by
  have hN : t.val < 4 := lt_of_lt_of_eq t.isLt N_0
  unfold affinityAt
  simp only [← iblk0 m c t, ← iblk1 m c t, ← iblk2 m c t, ← iblk3 m c t, ← iblk4 m c t, ← iblk5 m c t]
  by_cases h0 : t.val % 4 = 0
  · rw [outsAt0_A m c t h0 (by omega) (by omega)]
    dsimp only
    exact affinity_A (F := F) ..
  · by_cases h2 : t.val % 4 = 3
    · rw [outsAt0_C m c t h0 (by omega) h2]
      dsimp only
      exact affinity_C (F := F) ..
    · rw [outsAt0_B m c t h0 (by omega) h2]
      dsimp only
      exact affinity_B (F := F) ..

/-- Every grid point leaves its hard block, whichever of the three cases it runs. -/
theorem hard_at (c : Dev nD) (t : Fin cfg0.N) : (outsAt0 m c t.val t.isLt).2.2.2.1 = hardAt m c (pt t) := by
  have hN : t.val < 4 := lt_of_lt_of_eq t.isLt N_0
  unfold hardAt
  simp only [← iblk0 m c t, ← iblk1 m c t, ← iblk2 m c t, ← iblk3 m c t, ← iblk4 m c t, ← iblk5 m c t]
  by_cases h0 : t.val % 4 = 0
  · rw [outsAt0_A m c t h0 (by omega) (by omega)]
    dsimp only
    exact hard_A (F := F) ..
  · by_cases h2 : t.val % 4 = 3
    · rw [outsAt0_C m c t h0 (by omega) h2]
      dsimp only
      exact hard_C (F := F) ..
    · rw [outsAt0_B m c t h0 (by omega) h2]
      dsimp only
      exact hard_B (F := F) ..

/-! ## The two running sums and the loss -/

/-- After the first grid point the carried pair is that point's two sums. -/
theorem sums_first (c : Dev nD) (t : Fin cfg0.N) (h0 : t.val = 0) :
    (outsAt0 m c t.val t.isLt).2.2.2.2 = pair (numAt m c (pt t)) (denAt m c (pt t)) := by
  unfold numAt denAt
  simp only [← iblk0 m c t, ← iblk1 m c t, ← iblk2 m c t, ← iblk3 m c t, ← iblk4 m c t, ← iblk5 m c t]
  rw [outsAt0_A m c t (by omega) (by omega) (by omega)]
  dsimp only
  exact sums_A (F := F) ..

/-- A middle grid point adds its two sums to the carried pair. -/
theorem sums_next (c : Dev nD) (t : Fin cfg0.N) (h1 : 1 ≤ t.val) (h3 : t.val < 3) (a b : F .f32)
    (h : (outsAt0 m c (t.val - 1) (by have := t.isLt; omega)).2.2.2.2 = pair a b) :
    (outsAt0 m c t.val t.isLt).2.2.2.2
      = pair (Scalar.addf a (numAt m c (pt t))) (Scalar.addf b (denAt m c (pt t))) := by
  unfold numAt denAt
  simp only [← iblk0 m c t, ← iblk1 m c t, ← iblk2 m c t, ← iblk3 m c t, ← iblk4 m c t, ← iblk5 m c t]
  rw [outsAt0_B m c t (by omega) h1 (by omega)]
  dsimp only
  rw [h]
  exact sums_B (F := F) ..

/-- The last grid point adds its sums and divides. -/
theorem loss_last (c : Dev nD) (t : Fin cfg0.N) (h3 : t.val = 3) (a b : F .f32)
    (h : (outsAt0 m c (t.val - 1) (by have := t.isLt; omega)).2.2.2.2 = pair a b) :
    (outsAt0 m c t.val t.isLt).1
      = fun _ => k0_pay7 (Scalar.addf a (numAt m c (pt t))) (Scalar.addf b (denAt m c (pt t))) := by
  unfold numAt denAt
  simp only [← iblk0 m c t, ← iblk1 m c t, ← iblk2 m c t, ← iblk3 m c t, ← iblk4 m c t, ← iblk5 m c t]
  rw [outsAt0_C m c t (by omega) (by omega) (by omega)]
  dsimp only
  rw [h]
  exact loss_C (F := F) ..

/-- The loss: the numerators of the four grid points added in order, over the denominators. -/
def lossOf (c : Dev nD) : F .f32 :=
  k0_pay7
    (Scalar.addf (Scalar.addf (Scalar.addf (numAt m c 0) (numAt m c 1)) (numAt m c 2)) (numAt m c 3))
    (Scalar.addf (Scalar.addf (Scalar.addf (denAt m c 0) (denAt m c 1)) (denAt m c 2)) (denAt m c 3))

theorem loss_at (c : Dev nD) : (outsAt0 m c t0_3.val t0_3.isLt).1 = fun _ => lossOf m c := by
  have e0 := sums_first m c t0_0 rfl
  have e1 := sums_next m c t0_1 (by decide) (by decide) _ _ e0
  have e2 := sums_next m c t0_2 (by decide) (by decide) _ _ e1
  exact loss_last m c t0_3 rfl _ _ e2

/-! ## The result arrays after the four grid points -/

theorem final7 (c : Dev nD) : (dats m 0 c).arrAt 7 cfg0.N = glue (regionAt m c) := by
  refine (dats m 0 c).arrAt_eq_of_covers 7 _ (by decide +kernel) fun t hf y => ?_
  rw [emb7, glue_put, ← region_at]
  blk_simp
  rw [after0_7]

theorem final8 (c : Dev nD) : (dats m 0 c).arrAt 8 cfg0.N = glue (affinityAt m c) := by
  refine (dats m 0 c).arrAt_eq_of_covers 8 _ (by decide +kernel) fun t hf y => ?_
  rw [emb8, glue_put, ← affinity_at]
  blk_simp
  rw [after0_8]

theorem final9 (c : Dev nD) : (dats m 0 c).arrAt 9 cfg0.N = glue (hardAt m c) := by
  refine (dats m 0 c).arrAt_eq_of_covers 9 _ (by decide +kernel) fun t hf y => ?_
  rw [emb9, glue_put, ← hard_at]
  blk_simp
  rw [after0_9]

theorem final6 (c : Dev nD) : (dats m 0 c).arrAt 6 cfg0.N = fun _ => lossOf m c := by
  refine (dats m 0 c).arrAt_eq_of_after_last 6 t0_3 (by decide +kernel) _ fun j => ?_
  blk_simp
  rw [after0_6, loss_at]

/-- The program's last line reshapes the one-element loss array to a scalar. -/
theorem tail_loss (c : Dev nD) :
    Pipeline.afterTail₀ cfgs (dats m) 0 (V0 m) [hostOps1] c main_v1 = fun _ => lossOf m c := by
  unfold Pipeline.afterTail₀
  simp only [hostOps1, List.flatten_cons, List.flatten_nil, List.append_nil, StableHlo.after_cons, StableHlo.after_nil]
  rw [StableHlo.reshape_result]
  have e : Pipeline.withArrays (cfgs 0).spec c (V0 m c) (fun w => (dats m 0 c).arrAt w (cfgs 0).N)
      (Proc.devRef .tc main_v0_0) = fun _ => lossOf m c :=
    (Pipeline.withArrays_arr (cfgs 0).spec (by decide) c (V0 m c) _ 6).trans (final6 m c)
  rw [e]
  rfl

/-- Every execution of the kernel ends with the four results below and its arguments unchanged. -/
theorem results : θ_run defs (onTc (τ := τ) (main (F := F))) ⟨m, fun _ => 0, ρ⟩ (fun r => ∀ c : Dev nD,
      r.2.mem ((c.tc : Thread nD τ).loc main_v1) = (fun _ => lossOf m c)
      ∧ r.2.mem ((c.tc : Thread nD τ).loc main_v0_1) = glue (regionAt m c)
      ∧ r.2.mem ((c.tc : Thread nD τ).loc main_v0_2) = glue (affinityAt m c)
      ∧ r.2.mem ((c.tc : Thread nD τ).loc main_v0_3) = glue (hardAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v1 (Pipeline.mem_restRefs_of main_v1 (by decide) (by decide))).trans (tail_loss m c),
      ((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c)))⟩)
    (run_main m ρ)

end Cert.KernelIdeal.Craft

end
-- ==== Proof.Index.lean ====
/-
  The position in the sorted map at which the reference reads its threshold.  The reference computes it from the
  truncated sums of the two masks; for masks between zero and one it is always position zero of the descending order.
-/
module

public import proofs.«01_k».proof.Proof.Gen.ReferenceIdeal.Read
public import proofs.«01_k».proof.Pre_soft_masks
public import Idealize.ShloMosaic.Lib.IdealHost
public import Idealize.ShloMosaic.PureOps.Reduce

@[expose] public section

set_option maxRecDepth 16384

noncomputable section

namespace Cert.ReferenceIdeal.Craft

open Cert.ReferenceIdeal Cert.ReferenceIdeal.Read Idealize.ShloMosaic

/-! ## Words -/

/-- The word for three is not negative. -/
theorem three_word : 0 ≤ Ideal.ofBits .f32 0x40400000#32 := by
  have h : Ideal.ofBits .f32 0x40400000#32 = ((3 : ℝ) : EReal) := by
    simp [Ideal.ofBits, Ideal.ieee]
    rw [← EReal.coe_mul]
    norm_num
  rw [h]
  exact_mod_cast (by norm_num : (0 : ℝ) ≤ 3)

/-- Truncating a non-negative value to a 32-bit integer gives a non-negative integer. -/
theorem fptosi_nonneg (x : EReal) (h : 0 ≤ x) : 0 ≤ (Ideal.fptosi 32 x).toInt := by
  have hb : 0 ≤ Ideal.toIntClamped (-(2 ^ (32 - 1) : Nat)) ((2 ^ (32 - 1) : Nat) - 1) x
      ∧ Ideal.toIntClamped (-(2 ^ (32 - 1) : Nat)) ((2 ^ (32 - 1) : Nat) - 1) x ≤ 2147483647 := by
    induction x using EReal.rec with
    | bot => exact absurd h (by simp)
    | top => rw [Ideal.toIntClamped_top]; omega
    | coe r =>
      have hr : 0 ≤ r := by exact_mod_cast h
      have hf : 0 ≤ ⌊r⌋ := Int.floor_nonneg.mpr hr
      rw [Ideal.toIntClamped_coe, if_pos hr]
      omega
  unfold Ideal.fptosi
  generalize Ideal.toIntClamped (-(2 ^ (32 - 1) : Nat)) ((2 ^ (32 - 1) : Nat) - 1) x = z at hb
  rw [BitVec.toInt_ofInt, Int.bmod_def]
  split <;> omega

/-- Of two non-negative counts, the smaller, cut to one, less one, cut to the row, is zero. -/
theorem index_zero (a b : BitVec 32) (ha : 0 ≤ a.toInt) (hb : 0 ≤ b.toInt) :
    IntOp.minsi 147455#32 (IntOp.maxsi 0#32 (IntOp.subi (IntOp.minsi 1#32 (IntOp.minsi a b)) 1#32)) = 0#32 := by
  have h : 0 ≤ (IntOp.minsi a b).toInt := by
    unfold IntOp.minsi
    split <;> assumption
  generalize IntOp.minsi a b = n at h
  have hn : IntOp.minsi 1#32 n = 0#32 ∨ IntOp.minsi 1#32 n = 1#32 := by
    unfold IntOp.minsi
    split
    · right; rfl
    · rename_i hc
      have h1 : (1#32 : BitVec 32).toInt = 1 := by decide
      have h0 : (0#32 : BitVec 32).toInt = 0 := by decide
      simp [BitVec.slt, h1] at hc
      have hc' : n.toInt = 0 ∨ n.toInt = 1 := by omega
      exact hc'.imp (fun e => BitVec.eq_of_toInt_eq (e.trans h0.symm)) fun e => BitVec.eq_of_toInt_eq (e.trans h1.symm)
  rcases hn with e | e <;> rw [e] <;> decide

/-! ## The masks -/

/-- The two masks of the precondition, element by element: the background between zero and one, and the
foreground its complement. -/
structure Masks (x5 x6 : S8x384x384.Idx → EReal) : Prop where
  lo : ∀ i, 0 ≤ x6 i
  hi : ∀ i, x6 i ≤ 1
  compl : ∀ i, x5 i = 1 - x6 i

theorem Masks.fg_nonneg {x5 x6 : S8x384x384.Idx → EReal} (h : Masks x5 x6) (i : S8x384x384.Idx) : 0 ≤ x5 i := by
  rw [h.compl i]
  have hi := h.hi i
  have lo := h.lo i
  induction hx : x6 i using EReal.rec with
  | bot => rw [hx] at lo; exact absurd lo (by simp)
  | top => rw [hx] at hi; exact absurd hi (by decide)
  | coe r =>
    rw [hx] at hi
    have : r ≤ 1 := by exact_mod_cast hi
    have e : (1 : EReal) - (r : EReal) = ((1 - r : ℝ) : EReal) := by norm_cast
    rw [e]
    exact_mod_cast (by linarith : (0 : ℝ) ≤ 1 - r)

/-- The per-map sum of a non-negative array is not negative. -/
theorem sum_nonneg (x : S8x384x384.Idx → EReal) (h : ∀ i, 0 ≤ x i) (init : EReal) (h0 : 0 ≤ init)
    (hr : S8x384x384.ReducesTo [1, 2] S8) (b : S8.Idx) : 0 ≤ Ideal.hostReduceAdd hr x init b := by
  unfold Ideal.hostReduceAdd
  exact add_nonneg h0 (Finset.sum_nonneg fun i _ => h i)

/-- The reference's index, cut to the row, is zero. -/
theorem cut_index {x5 x6 : S8x384x384.Idx → EReal} (h : Masks x5 x6) (b : S8.Idx) :
    val_main_v26 (F := Ideal) x5 x6 b = 0#32 := by
  have hz : (0 : EReal) ≤ Ideal.ofBits .f32 0x00000000#32 := le_of_eq Ideal.ofBits_zero_f32.symm
  rw [val_main_v26_apply, val_main_call2_v4_apply, val_main_call2_v3_apply, val_main_c_6_apply,
    val_main_call2_v2_apply, val_main_call2_v1_apply, val_main_call2_v0_apply, val_main_c_5_apply,
    val_main_v25_apply, val_main_v24_apply, val_main_c_4_apply, val_main_v19_apply, val_main_v18_apply,
    val_main_c_apply, val_main_v17_apply]
  apply index_zero
  · rw [val_main_v16_apply]
    exact fptosi_nonneg _ (sum_nonneg x6 h.lo _ hz _ b)
  · rw [val_main_v15_apply, val_main_v14_apply, val_main_v13_apply, val_main_cst_3_apply]
    exact fptosi_nonneg _ (mul_nonneg (sum_nonneg x5 h.fg_nonneg _ hz _ b) three_word)

/-- So is the start index of the gather. -/
theorem start_index {x5 x6 : S8x384x384.Idx → EReal} (h : Masks x5 x6) (i : S8x1.Idx) :
    val_main_call3_v5 (F := Ideal) x5 x6 i = 0#32 := by
  rw [val_main_call3_v5_apply, val_main_call3_v4_apply, val_main_call3_v1_apply, cut_index h,
    val_main_call3_v0_apply, val_main_call3_c_apply]
  rfl

/-- The gather's start index is within the row, so its result is the one kept. -/
theorem in_bounds {x5 x6 : S8x384x384.Idx → EReal} (h : Masks x5 x6) (b : S8.Idx) :
    val_main_call3_v12 (F := Ideal) x5 x6 b = 1#1 := by
  have e : val_main_call3_v11 (F := Ideal) x5 x6 = fun _ => 1#1 := by
    funext i
    rw [val_main_call3_v11_apply, val_main_call3_v7_apply, val_main_call3_v10_apply, start_index h,
      val_main_call3_v6_apply, val_main_call3_c_2_apply, val_main_call3_v9_apply, val_main_call3_v8_apply,
      val_main_call3_c_1_apply]
    rfl
  unfold val_main_call3_v12
  rw [e, Host.reduce_eq_foldl]
  have : ∀ l : List S8x1.Idx, l.foldl (fun r _ => IntOp.andi r 1#1) 1#1 = 1#1 := by
    intro l
    induction l with
    | nil => rfl
    | cons a l ih => exact ih
  exact this _

end Cert.ReferenceIdeal.Craft

end
-- ==== Proof.Threshold.lean ====
/-
  The reference's per-map threshold.  It sorts a map's masked loss, turns the order round and reads position zero:
  the greatest element of the map.
-/
module

public import proofs.«01_k».proof.Proof.Index
public import Idealize.ShloMosaic.Lib.SortFacts
public import Idealize.ShloMosaic.Lib.Pointwise

@[expose] public section

set_option maxRecDepth 16384

noncomputable section

namespace Cert.ReferenceIdeal.Craft

open Cert.ReferenceIdeal Cert.ReferenceIdeal.Read Idealize.ShloMosaic

/-! ## Sorting -/

/-- On extended reals the printed comparator is "less than". -/
theorem before_iff (l r : EReal) : comparator_f32_d1 (F := Ideal) l r = 1#1 ↔ l < r := by
  have hz : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := by
    intro v
    rw [Ideal.ofBits_zero_f32]
    have h1 : Ideal.cmp .une v v = 0#1 := by simp [Ideal.cmp]
    rw [h1]
    show Scalar.select (Ideal.cmp .oeq v 0) 0 v = v
    by_cases h : v = 0
    · subst h; simp [Ideal.cmp, Scalar.select]
    · simp [Ideal.cmp, Scalar.select, h]
  have e : comparator_f32_d1 (F := Ideal) l r = Ideal.cmp .olt l r := by
    show Ideal.cmp .olt _ _ = _
    exact congrArg₂ _ (hz l) (hz r)
  rw [e]
  by_cases h : l < r <;> simp [Ideal.cmp, h]

/-- The last position of a list sorted in ascending order holds an element at least as great as every other. -/
theorem le_last {n : ℕ} (x : Fin (n + 1) → EReal) (k : Fin (n + 1)) :
    x k ≤ x (sortedFrom (fun a b => comparator_f32_d1 (F := Ideal) (x a) (x b) == 1#1) (Fin.last n)) := by
  set R : Fin (n + 1) → Fin (n + 1) → Bool := fun a b => comparator_f32_d1 (F := Ideal) (x a) (x b) == 1#1 with hR
  have hlt : ∀ a b, R a b = true ↔ x a < x b := fun a b => by simp [hR, before_iff]
  have hnot : ∀ a b, R a b = false ↔ x b ≤ x a := fun a b => by
    rw [← not_lt, ← hlt, Bool.not_eq_true]
  obtain ⟨q, rfl⟩ := sortedFrom_surjective R k
  by_cases hq : q = Fin.last n
  · rw [hq]
  · exact (hnot _ _).mp (sortedFrom_noInversion R R (fun a b h => (hnot _ _).mpr ((hlt _ _).mp h).le) (fun _ _ h => h)
      (fun a b c h1 h2 => (hnot _ _).mpr (((hnot _ _).mp h2).trans ((hnot _ _).mp h1))) q (Fin.last n)
      (lt_of_le_of_ne (Fin.le_last q) hq))

/-- A two-axis array sorted along its second axis, read at an element: the row sorted on its own. -/
theorem sort_apply {α : Type} {B n : ℕ} (cmp : α → α → BitVec 1) (x : (⟨2, ![B, n]⟩ : Shape).Idx → α) (b : Fin B) (q : Fin n) :
    Host.sort ⟨2, ![B, n]⟩ 1 cmp x (ix2 b q)
      = x (ix2 b (sortedFrom (fun k k' : Fin n => cmp (x (ix2 b k)) (x (ix2 b k')) == 1#1) q)) := by
  have ha : ∀ k : Fin n, (ix2 b q : (⟨2, ![B, n]⟩ : Shape).Idx).along ⟨1, Nat.one_lt_two⟩ k = ix2 b k := by
    intro k
    funext a
    fin_cases a <;> rfl
  unfold Host.sort
  rw [dif_pos (show 1 < (⟨2, ![B, n]⟩ : Shape).rank from Nat.one_lt_two)]
  refine (congrArg x (ha _)).trans ?_
  have hr : (fun k k' : Fin n => cmp (x ((ix2 b q : (⟨2, ![B, n]⟩ : Shape).Idx).along ⟨1, Nat.one_lt_two⟩ k))
      (x ((ix2 b q : (⟨2, ![B, n]⟩ : Shape).Idx).along ⟨1, Nat.one_lt_two⟩ k')) == 1#1)
      = fun k k' : Fin n => cmp (x (ix2 b k)) (x (ix2 b k')) == 1#1 := by
    funext k k'
    rw [ha, ha]
  exact congrArg (fun R => x (ix2 b (sortedFrom R q))) hr

/-- A two-axis array reversed along its second axis reads, at the front of a row, the row's end. -/
theorem reverse_front {α : Type} {B n : ℕ} (x : (⟨2, ![B, n + 1]⟩ : Shape).Idx → α) (b : Fin B) :
    Host.reverse [1] x (ix2 b 0) = x (ix2 b (Fin.last n)) := by
  unfold Host.reverse
  congr 1
  funext a
  fin_cases a
  · rfl
  · exact Fin.rev_zero n

/-! ## The gather -/

/-- With every start index zero, the gather reads position zero of each row. -/
theorem gather_front (x : S8x147456.Idx → EReal) (idx : IVec S8x1 32) (h : ∀ i, idx i = 0#32) (b : Fin 8) :
    Host.gather gather_S8x147456_S8x1_S8_n_1_0_0_1_1_11 x idx (ix1 b) = x (ix2 b 0) := by
  unfold Host.gather
  congr 1
  funext a
  apply Fin.ext
  show gather_S8x147456_S8x1_S8_n_1_0_0_1_1_11.start (ix1 b) idx a
    + gather_S8x147456_S8x1_S8_n_1_0_0_1_1_11.batchCoord (ix1 b) a
    + gather_S8x147456_S8x1_S8_n_1_0_0_1_1_11.offCoord (ix1 b) a = _
  have hs : gather_S8x147456_S8x1_S8_n_1_0_0_1_1_11.start (ix1 b) idx a = 0 := by
    unfold GatherDims.start
    split
    · rw [h]; exact Nat.zero_min _
    · rfl
  have hk : a ∉ gather_S8x147456_S8x1_S8_n_1_0_0_1_1_11.sKept := by
    rw [GatherDims.mem_sKept]
    fin_cases a <;> simp [gather_S8x147456_S8x1_S8_n_1_0_0_1_1_11]
  rw [hs, GatherDims.offCoord_eq_zero _ _ _ hk]
  fin_cases a
  · have hm : (0 : Fin 2) ∈ gather_S8x147456_S8x1_S8_n_1_0_0_1_1_11.operandBatchingDims := List.mem_singleton.mpr rfl
    show 0 + gather_S8x147456_S8x1_S8_n_1_0_0_1_1_11.batchCoord (ix1 b) (0 : Fin 2) + 0 = b.val
    unfold GatherDims.batchCoord
    rw [dif_pos hm, Nat.zero_add, Nat.add_zero]
    rfl
  · rw [GatherDims.batchCoord_eq_zero _ _ _ (by simp [gather_S8x147456_S8x1_S8_n_1_0_0_1_1_11])]
    rfl

/-! ## The threshold -/

variable (x0 x1 x2 x3 x4 x5 x6 : S8x384x384.Idx → EReal)

/-- The threshold is the sorted row's last element. -/
theorem threshold_eq (h : Masks x5 x6) (b : Fin 8) :
    val_main_v27 (F := Ideal) x0 x1 x2 x3 x4 x5 x6 (ix1 b)
      = val_main_v22 (F := Ideal) x0 x1 x2 x3 x4 x6 (ix2 b (Fin.last 147455)) := by
  rw [val_main_v27_apply, in_bounds h]
  show val_main_call3_v13 (F := Ideal) x0 x1 x2 x3 x4 x5 x6 (ix1 b) = _
  unfold val_main_call3_v13
  rw [gather_front _ _ (start_index h)]
  exact reverse_front (n := 147455) _ b

/-- One element of the flattened row is one element of the map. -/
theorem row_apply (b : Fin 8) (q : Fin 147456) :
    val_main_v21 (F := Ideal) x0 x1 x2 x3 x4 x6 (ix2 b q)
      = val_main_v20 (F := Ideal) x0 x1 x2 x3 x4 x6 (ix3 b ⟨q.val / 384, by omega⟩ ⟨q.val % 384, by omega⟩) := by
  rw [val_main_v21_apply]
  congr 1
  have hq := q.isLt
  have hb := b.isLt
  funext a
  apply Fin.ext
  fin_cases a
  · show (b.val * 147456 + q.val) / 147456 = b.val
    omega
  · show (b.val * 147456 + q.val) / 384 % 384 = q.val / 384
    omega
  · show (b.val * 147456 + q.val) % 384 = q.val % 384
    omega

/-- The threshold is the greatest element of the map's masked loss. -/
theorem threshold_greatest (h : Masks x5 x6) (b : Fin 8) :
    IsGreatest (Set.range fun p : Fin 384 × Fin 384 => val_main_v20 (F := Ideal) x0 x1 x2 x3 x4 x6 (ix3 b p.1 p.2))
      (val_main_v27 (F := Ideal) x0 x1 x2 x3 x4 x5 x6 (ix1 b)) := by
  have e : val_main_v22 (F := Ideal) x0 x1 x2 x3 x4 x6 (ix2 b (Fin.last 147455))
      = val_main_v21 (F := Ideal) x0 x1 x2 x3 x4 x6 (ix2 b (sortedFrom (fun k k' =>
          comparator_f32_d1 (F := Ideal) (val_main_v21 (F := Ideal) x0 x1 x2 x3 x4 x6 (ix2 b k))
            (val_main_v21 (F := Ideal) x0 x1 x2 x3 x4 x6 (ix2 b k')) == 1#1) (Fin.last 147455))) := by
    exact sort_apply (B := 8) (n := 147456) _ _ b _
  rw [threshold_eq x0 x1 x2 x3 x4 x5 x6 h, e]
  constructor
  · rw [row_apply]
    exact ⟨(_, _), rfl⟩
  · rintro _ ⟨⟨y, z⟩, rfl⟩
    have hl := le_last (fun q : Fin 147456 => val_main_v21 (F := Ideal) x0 x1 x2 x3 x4 x6 (ix2 b q))
      ⟨y.val * 384 + z.val, by have := y.isLt; have := z.isLt; omega⟩
    refine le_trans (le_of_eq ?_) hl
    show _ = val_main_v21 (F := Ideal) x0 x1 x2 x3 x4 x6 (ix2 b ⟨y.val * 384 + z.val, _⟩)
    rw [row_apply]
    have hy := y.isLt
    have hz := z.isLt
    have e1 : (⟨(y.val * 384 + z.val) / 384, by omega⟩ : Fin 384) = y := Fin.ext (by show (y.val * 384 + z.val) / 384 = y.val; omega)
    have e2 : (⟨(y.val * 384 + z.val) % 384, by omega⟩ : Fin 384) = z := Fin.ext (by show (y.val * 384 + z.val) % 384 = z.val; omega)
    show _ = val_main_v20 (F := Ideal) x0 x1 x2 x3 x4 x6 (ix3 b ⟨(y.val * 384 + z.val) / 384, _⟩ ⟨(y.val * 384 + z.val) % 384, _⟩)
    rw [e1, e2]

end Cert.ReferenceIdeal.Craft

end
-- ==== Proof.Equation.lean ====
/-
  The kernel's four results and the reference's, as functions of the same seven arrays at the extended reals, are equal
  when the two masks are complementary weights between 0 and 1.
-/
module

public import proofs.«01_k».proof.Proof.Arrays
public import proofs.«01_k».proof.Proof.Threshold

@[expose] public section

set_option maxRecDepth 16384

noncomputable section

namespace Cert.Craft

open Idealize.ShloMosaic Cert.KernelIdeal.Craft Cert.KernelIdeal.Gen Cert.ReferenceIdeal.Read Cert.ReferenceIdeal.Craft
open Cert.KernelIdeal (S2x384x384 S2 S2x1x1 S8x384x384)

variable (x0 x1 x2 x3 x4 x5 x6 : S8x384x384.Idx → EReal)

/-! ## The confidence and the two loss maps -/

/-- The thresholded confidence of grid point `t`'s block is the reference's, read in that block. -/
theorem confidence_block (t : Fin 4) (y : S2x384x384.Idx) :
    k0_pay8 (F := Ideal) (blockAt x4 t) y = val_main_v3 (F := Ideal) x4 (put t y) := by
  rw [val_main_v3_apply, val_main_v1_apply, val_main_v0_apply, val_main_v2_apply]
  rfl

/-- The region loss of a block is the reference's, read in that block. -/
theorem region_block (t : Fin 4) (y : S2x384x384.Idx) :
    k0_pay9 (F := Ideal) (blockAt x4 t) (blockAt x0 t) (blockAt x2 t) y = val_main_v6 (F := Ideal) x0 x2 x4 (put t y) := by
  rw [val_main_v6_apply, ← confidence_block]
  rfl

/-- The affinity loss of a block is the reference's, read in that block. -/
theorem affinity_block (t : Fin 4) (y : S2x384x384.Idx) :
    k0_pay10 (F := Ideal) (blockAt x4 t) (blockAt x1 t) (blockAt x3 t) y = val_main_v9 (F := Ideal) x1 x3 x4 (put t y) := by
  rw [val_main_v9_apply, ← confidence_block]
  rfl

/-- The sum of the two losses of a block is the reference's, read in that block. -/
theorem total_block (t : Fin 4) (y : S2x384x384.Idx) :
    k0_pay11 (F := Ideal) (blockAt x4 t) (blockAt x0 t) (blockAt x2 t) (blockAt x1 t) (blockAt x3 t) y
      = val_main_v10 (F := Ideal) x0 x1 x2 x3 x4 (put t y) := by
  rw [val_main_v10_apply, ← region_block, ← affinity_block]
  rfl

/-! ## The hard-background mask -/

/-- The greatest element of each of a block's two maps: the kernel's reduction. -/
def blockMax (v : S2x384x384.Idx → EReal) : S2.Idx → EReal :=
  multiReduction (F := Ideal) (φ := .f32) .maximumf [1, 2] S2 v 0xFF800000#32 Cert.KernelIdeal.Gen.facts.reduces_S2x384x384_S2 (.inl rfl) rfl

theorem ofBits_neg_inf : (FloatOps.ofBits (F := Ideal) .f32 0xFF800000#32 : EReal) = ⊥ := by
  show Ideal.ofBits .f32 0xFF800000#32 = ⊥
  simp [Ideal.ofBits, Ideal.ieee]

/-- A maximum folded from the bottom over a nonempty finite type is attained and bounds every value. -/
theorem fold_max_greatest {ι : Type} [Fintype ι] [Nonempty ι] (f : ι → EReal) :
    IsGreatest (Set.range f) ((Finset.univ : Finset ι).fold max ⊥ f) := by
  have e : (Finset.univ : Finset ι).fold max ⊥ f = Finset.univ.sup f := rfl
  rw [e]
  constructor
  · obtain ⟨i, -, hi⟩ := Finset.exists_mem_eq_sup Finset.univ Finset.univ_nonempty f
    exact ⟨i, hi.symm⟩
  · rintro _ ⟨i, rfl⟩
    exact Finset.le_sup (Finset.mem_univ i)

/-- The kernel's per-map reduction is the greatest element of that map. -/
theorem blockMax_greatest (v : S2x384x384.Idx → EReal) (a : Fin 2) :
    IsGreatest (Set.range fun p : Fin 384 × Fin 384 => v (ix3 a p.1 p.2)) (blockMax v (ix1 a)) := by
  have e : blockMax v (ix1 a)
      = (Finset.univ : Finset (Fin 384 × Fin 384)).fold max ⊥ (fun p => v (ix3 a p.1 p.2)) := by
    refine (multiReduction_maximumf_eq_fold (F := Ideal) (φ := .f32) v _ _ _ _ _).trans ?_
    rw [ofBits_neg_inf]
    exact Shape.Reduces.fold_fiber_r3_a12 _ _ max ⊥ v
  rw [e]
  exact fold_max_greatest _

/-- The kernel spreads a map's maximum over the whole map. -/
theorem spread_max (v : S2.Idx → EReal) (y : S2x384x384.Idx) :
    broadcastTo S2x384x384 (shapeCast S2x1x1 v Cert.KernelIdeal.Gen.facts.shapeCasts_S2_S2x1x1)
      Cert.KernelIdeal.Gen.facts.broadcasts_S2x1x1_S2x384x384 y = v (ix1 (y 0)) := by
  refine (broadcastTo_apply _ _ y (ix3 (y 0) 0 0) (fun a => by fin_cases a <;> rfl)).trans ?_
  refine shapeCast_apply _ _ _ _ ?_
  refine (Shape.rowMajor_val_one _).trans (Eq.trans ?_ (Shape.rowMajor_val_three _).symm)
  show (y 0).val = ((y 0).val * 1 + 0) * 1 + 0
  omega

/-- The reference spreads a map's threshold over the whole map. -/
theorem spread_threshold (t : Fin 4) (y : S2x384x384.Idx) :
    val_main_v32 (F := Ideal) x0 x1 x2 x3 x4 x5 x6 (put t y)
      = val_main_v27 (F := Ideal) x0 x1 x2 x3 x4 x5 x6 (ix1 (put t y 0)) := by
  rw [val_main_v32_apply, val_main_v31_apply]
  congr 1
  funext a
  fin_cases a
  rfl

/-- The kernel's per-map maximum is the reference's threshold of that map. -/
theorem threshold_block (h : Masks x5 x6) (t : Fin 4) (y : S2x384x384.Idx) (v : S2x384x384.Idx → EReal)
    (hv : ∀ z, v z = val_main_v20 (F := Ideal) x0 x1 x2 x3 x4 x6 (put t z)) :
    blockMax v (ix1 (y 0)) = val_main_v27 (F := Ideal) x0 x1 x2 x3 x4 x5 x6 (ix1 (put t y 0)) := by
  have hk := blockMax_greatest v (y 0)
  simp only [hv] at hk
  exact hk.unique (threshold_greatest x0 x1 x2 x3 x4 x5 x6 h (put t y 0))

/-- The kernel's mask of a block is the reference's, read in that block. -/
theorem mask_block (h : Masks x5 x6) (t : Fin 4) (y : S2x384x384.Idx) :
    k0_pay12 (F := Ideal) (blockAt x4 t) (blockAt x0 t) (blockAt x2 t) (blockAt x1 t) (blockAt x3 t) (blockAt x6 t) y
      = val_main_v34 (F := Ideal) x0 x1 x2 x3 x4 x5 x6 (put t y) := by
  have hv : ∀ z, mulf (F := Ideal) (φ := .f32) (k0_pay11 (F := Ideal) (blockAt x4 t) (blockAt x0 t) (blockAt x2 t) (blockAt x1 t) (blockAt x3 t))
      (blockAt x6 t) z = val_main_v20 (F := Ideal) x0 x1 x2 x3 x4 x6 (put t z) := fun z => by
    rw [val_main_v20_apply, ← total_block]
    rfl
  rw [val_main_v34_apply, val_main_v30_apply, val_main_v29_apply, val_main_v28_apply, val_main_v33_apply,
    spread_threshold, ← threshold_block x0 x1 x2 x3 x4 x5 x6 h t y _ hv, ← hv y]
  refine Eq.trans ?_ (congrArg _ (congrArg _ (spread_max _ y)))
  rfl

/-- The hard-background result of a block is the reference's, read in that block. -/
theorem hard_block (h : Masks x5 x6) (t : Fin 4) (y : S2x384x384.Idx) :
    hardBlock (F := Ideal) (blockAt x0 t) (blockAt x1 t) (blockAt x2 t) (blockAt x3 t) (blockAt x4 t) (blockAt x6 t) y
      = val_main_v35 (F := Ideal) x0 x1 x2 x3 x4 x5 x6 (put t y) := by
  rw [val_main_v35_apply, ← mask_block x0 x1 x2 x3 x4 x5 x6 h t y]
  generalize hq : k0_pay12 (F := Ideal) (blockAt x4 t) (blockAt x0 t) (blockAt x2 t) (blockAt x1 t) (blockAt x3 t) (blockAt x6 t) = q
  have e : hardBlock (F := Ideal) (blockAt x0 t) (blockAt x1 t) (blockAt x2 t) (blockAt x3 t) (blockAt x4 t) (blockAt x6 t) y
      = Scalar.select (q y) (Ideal.ofBits .f32 0x3F800000#32) (Ideal.ofBits .f32 0x00000000#32) := by
    unfold hardBlock
    rw [hq]
    rfl
  rw [e, Ideal.ofBits_one_f32, Ideal.ofBits_zero_f32]
  generalize q y = b
  show _ = ((b.toNat : ℝ) : EReal)
  rcases (by revert b; decide : b = 0#1 ∨ b = 1#1) with rfl | rfl <;> simp [Scalar.select]

/-! ## The loss -/

/-- A sum over the eight maps is the sum over the four blocks' sums. -/
theorem sum_blocks (f : S8x384x384.Idx → EReal) :
    ∑ i, f i = (∑ y, f (put 0 y)) + (∑ y, f (put 1 y)) + (∑ y, f (put 2 y)) + (∑ y, f (put 3 y)) := by
  have e : ∑ i, f i = ∑ q : Fin 4 × S2x384x384.Idx, f (put q.1 q.2) :=
    Fintype.sum_equiv
      { toFun := fun i => (point i, place i)
        invFun := fun q => put q.1 q.2
        left_inv := put_point_place
        right_inv := fun q => Prod.ext (point_put q.1 q.2) (place_put q.1 q.2) } _ _
      fun i => congrArg f (put_point_place i).symm
  rw [e, Fintype.sum_prod_type, Fin.sum_univ_four]

/-- The kernel's sum of a block to one number is the sum of its elements. -/
theorem sum_block (v : S2x384x384.Idx → EReal) :
    extractAt ![0, 0, 0, 0] (shapeCast Cert.KernelIdeal.S1x1x1x1
      (multiReduction (F := Ideal) (φ := .f32) .add [1, 2, 3] Cert.KernelIdeal.S1
        (shapeCast Cert.KernelIdeal.S1x2x384x384 v Cert.KernelIdeal.Gen.facts.shapeCasts_S2x384x384_S1x2x384x384) 0x00000000#32
        Cert.KernelIdeal.Gen.facts.reduces_S1x2x384x384_S1 (.inl rfl) rfl) Cert.KernelIdeal.Gen.facts.shapeCasts_S1_S1x1x1x1)
      Cert.KernelIdeal.Gen.facts.inpos_S1x1x1x1_p0_0_0_0 = ∑ y, v y := by
  refine (Ideal.multiReduction_add_total (φ := .f32) _ 0x00000000#32 _ (by decide) (.inl rfl) rfl _).trans ?_
  exact Equiv.sum_comp (Shape.reshapeEquiv Cert.KernelIdeal.Gen.facts.shapeCasts_S2x384x384_S1x2x384x384) v

/-- The weight of an element in the loss: the mask plus the foreground weight, which is one minus the background's. -/
theorem weight_block (h : Masks x5 x6) (t : Fin 4) (y : S2x384x384.Idx) :
    k0_pay2 (F := Ideal) (blockAt x6 t)
        (k0_pay12 (F := Ideal) (blockAt x4 t) (blockAt x0 t) (blockAt x2 t) (blockAt x1 t) (blockAt x3 t) (blockAt x6 t))
        (FloatOps.ofBits .f32 0x3F800000#32) (FloatOps.ofBits .f32 0x00000000#32) y
      = val_main_v36 (F := Ideal) x0 x1 x2 x3 x4 x5 x6 (put t y) := by
  rw [val_main_v36_apply, ← hard_block x0 x1 x2 x3 x4 x5 x6 h t y, h.compl, ← Ideal.ofBits_one_f32]
  rfl

/-- A grid point's share of the numerator is the sum of the reference's weighted loss over its block. -/
theorem num_block (h : Masks x5 x6) (t : Fin 4) :
    numBlock (F := Ideal) (blockAt x0 t) (blockAt x1 t) (blockAt x2 t) (blockAt x3 t) (blockAt x4 t) (blockAt x6 t)
      = ∑ y, val_main_v37 (F := Ideal) x0 x1 x2 x3 x4 x5 x6 (put t y) := by
  refine (sum_block _).trans (Finset.sum_congr rfl fun y _ => ?_)
  rw [val_main_v37_apply, ← total_block, ← weight_block x0 x1 x2 x3 x4 x5 x6 h]
  rfl

/-- A grid point's share of the denominator is the sum of the reference's weighted confidence over its block. -/
theorem den_block (h : Masks x5 x6) (t : Fin 4) :
    denBlock (F := Ideal) (blockAt x0 t) (blockAt x1 t) (blockAt x2 t) (blockAt x3 t) (blockAt x4 t) (blockAt x6 t)
      = ∑ y, val_main_v39 (F := Ideal) x0 x1 x2 x3 x4 x5 x6 (put t y) := by
  refine (sum_block _).trans (Finset.sum_congr rfl fun y _ => ?_)
  rw [val_main_v39_apply, ← confidence_block, ← weight_block x0 x1 x2 x3 x4 x5 x6 h]
  rfl

/-- The four numerators in order, over the four denominators in order and the small constant, is the reference's loss. -/
theorem loss_eq (n d : Fin 4 → EReal)
    (hn : ∀ t, n t = ∑ y, val_main_v37 (F := Ideal) x0 x1 x2 x3 x4 x5 x6 (put t y))
    (hd : ∀ t, d t = ∑ y, val_main_v39 (F := Ideal) x0 x1 x2 x3 x4 x5 x6 (put t y)) (i : Cert.ReferenceIdeal.S_.Idx) :
    k0_pay7 (F := Ideal) (n 0 + n 1 + n 2 + n 3) (d 0 + d 1 + d 2 + d 3)
      = val_main_v42 (F := Ideal) x0 x1 x2 x3 x4 x5 x6 i := by
  have z8 : (val_main_cst_8 (F := Ideal)) (Shape.Idx.first Cert.ReferenceIdeal.Gen.facts.h_S_) = 0 := Ideal.ofBits_zero_f32
  have z9 : (val_main_cst_9 (F := Ideal)) (Shape.Idx.first Cert.ReferenceIdeal.Gen.facts.h_S_) = 0 := Ideal.ofBits_zero_f32
  have e38 : val_main_v38 (F := Ideal) x0 x1 x2 x3 x4 x5 x6 i = n 0 + n 1 + n 2 + n 3 := by
    rw [val_main_v38_apply, z8, zero_add, sum_blocks]
    simp only [hn]
  have e40 : val_main_v40 (F := Ideal) x0 x1 x2 x3 x4 x5 x6 i = d 0 + d 1 + d 2 + d 3 := by
    rw [val_main_v40_apply, z9, zero_add, sum_blocks]
    simp only [hd]
  rw [val_main_v42_apply, val_main_v41_apply, e38, e40]
  rfl

/-! ## The precondition -/

/-- The stated precondition, on arrays: the background weight lies between 0 and 1 and the foreground weight is one minus it. -/
theorem masks_of_pre [Cert.Pre_soft_masks.Facts]
    (h : ∀ i, Cert.Pre_soft_masks.fn (F := Ideal) x0 x1 x2 x3 x4 x5 x6 i = 1#1) : Masks x5 x6 := by
  have key : ∀ i, 0 ≤ x6 i ∧ x6 i ≤ 1 ∧ x5 i = 1 - x6 i := fun i => by
    have hi : (Ideal.cmp .oge (x6 i) (Ideal.ofBits .f32 0x00000000#32) &&& Ideal.cmp .ole (x6 i) (Ideal.ofBits .f32 0x3F800000#32))
        &&& Ideal.cmp .oeq (x5 i) (Ideal.ofBits .f32 0x3F800000#32 - x6 i) = 1#1 := h i
    rw [Ideal.ofBits_zero_f32, Ideal.ofBits_one_f32] at hi
    have split : ∀ a b : Bool, BitVec.ofBool a &&& BitVec.ofBool b = BitVec.ofBool (a && b) := by decide
    have one : ∀ a : Bool, BitVec.ofBool a = 1#1 ↔ a = true := by decide
    simp only [Ideal.cmp, split, one, Bool.and_eq_true, decide_eq_true_eq] at hi
    exact ⟨hi.1.1, hi.1.2, hi.2⟩
  exact ⟨fun i => (key i).1, fun i => (key i).2.1, fun i => (key i).2.2⟩

end Cert.Craft
-- ==== Proof.Claims.lean ====
/-
  The stated claims, one theorem each: the three programs run, keep their arguments and leave every counter at zero;
  and the kernel's four results are the reference's, over the extended reals.
-/
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Equation

@[expose] public section

set_option maxRecDepth 16384

noncomputable section

namespace Cert.Craft

open Idealize.ShloMosaic Idealize.ShloMosaic.TcCoe Idealize.SL.Sem
open Cert.KernelIdeal.Craft Cert.ReferenceIdeal.Read Cert.ReferenceIdeal.Craft
open Cert.KernelIdeal (main_arg0 main_arg1 main_arg2 main_arg3 main_arg4 main_arg5 main_arg6 nD τ sig)

/-- The one side condition of the precondition's own text: a scalar spreads over the eight maps. -/
theorem preFacts : Cert.Pre_soft_masks.Facts := ⟨Cert.ReferenceIdeal.Gen.facts.bcast_S_S8x384x384⟩

/-- The kernel runs, keeps its arguments and leaves every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- And in particular under the precondition. -/
theorem frame_ideal_pre : Cert.quiescent_KernelIdeal_pre_soft_masks (hPre_soft_masks := preFacts) :=
  fun m ρ _ => Cert.KernelIdeal.Gen.frame m ρ

/-- The reference runs, keeps its arguments and, having no semaphore, leaves every counter at zero. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- And in particular under the precondition. -/
theorem frame_reference_pre : Cert.quiescent_ReferenceIdeal_pre_soft_masks (hPre_soft_masks := preFacts) :=
  fun m ρ _ => frame_reference m ρ trivial

/-! ## The four results -/

section Results

variable (m : (ℓ : Loc nD τ sig) → Buf (Elt Ideal) ℓ) (c : Dev nD)

/-- What the precondition says of the two masks in memory. -/
theorem masks (h : Cert.Pre_KernelIdeal_soft_masks (hPre_soft_masks := preFacts) m) :
    Masks (m ((c : Thread nD τ).loc main_arg5)) (m ((c : Thread nD τ).loc main_arg6)) :=
  haveI := preFacts
  masks_of_pre _ _ _ _ _ _ _ fun i => congrFun (h c) i

/-- The second result: the region loss. -/
theorem region_eq : glue (regionAt m c)
    = val_main_v6 (F := Ideal) (m ((c : Thread nD τ).loc main_arg0)) (m ((c : Thread nD τ).loc main_arg2)) (m ((c : Thread nD τ).loc main_arg4)) :=
  funext fun i => (region_block _ _ _ (point i) (place i)).trans (congrArg _ (put_point_place i))

/-- The third result: the affinity loss. -/
theorem affinity_eq : glue (affinityAt m c)
    = val_main_v9 (F := Ideal) (m ((c : Thread nD τ).loc main_arg1)) (m ((c : Thread nD τ).loc main_arg3)) (m ((c : Thread nD τ).loc main_arg4)) :=
  funext fun i => (affinity_block _ _ _ (point i) (place i)).trans (congrArg _ (put_point_place i))

/-- The fourth result: the hard-background mask. -/
theorem hard_eq (h : Masks (m ((c : Thread nD τ).loc main_arg5)) (m ((c : Thread nD τ).loc main_arg6))) : glue (hardAt m c)
    = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) :=
  funext fun i => (hard_block _ _ _ _ _ _ _ h (point i) (place i)).trans (congrArg _ (put_point_place i))

/-- The first result: the loss. -/
theorem loss_value (h : Masks (m ((c : Thread nD τ).loc main_arg5)) (m ((c : Thread nD τ).loc main_arg6))) : (fun _ => lossOf m c)
    = val_main_v42 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) :=
  funext fun i => loss_eq _ _ _ _ _ _ _ (numAt m c) (denAt m c) (fun t => num_block _ _ _ _ _ _ _ h t) (fun t => den_block _ _ _ _ _ _ _ h t) i

end Results

/-- Under the precondition, from memories that agree on the arguments, the kernel's four results and the reference's are
    equal over the extended reals, and both keep their arguments. -/
theorem algebraic : Cert.algebraic_KernelIdeal_ReferenceIdeal_pre_soft_masks (hPre_soft_masks := preFacts) := by
  intro m ρ m' ρ' hpre hagree
  refine ⟨_, _, _, _, results m ρ, ?_⟩
  refine (θ_run Cert.ReferenceIdeal.defs _ _).mono (fun r h c => ?_) (Cert.ReferenceIdeal.Value.run (F := Ideal) m' ρ')
  obtain ⟨h42, h6, h9, h35, hkept⟩ := h c
  obtain ⟨a0, a1, a2, a3, a4, a5, a6⟩ := hagree c
  have hm := masks m c hpre
  refine ⟨?_, ?_, ?_, ?_, hkept⟩
  · rw [h42, val_main_v42_eq, a0, a1, a2, a3, a4, a5, a6]
    exact (loss_value m c hm).symm
  · rw [h6, val_main_v6_eq, a0, a2, a4]
    exact (region_eq m c).symm
  · rw [h9, val_main_v9_eq, a1, a3, a4]
    exact (affinity_eq m c).symm
  · rw [h35, val_main_v35_eq, a0, a1, a2, a3, a4, a5, a6]
    exact (hard_eq m c hm).symm

end Cert.Craft
-- ==== Proof.lean ====
module

public import proofs.«01_k».proof.Defs
public import proofs.«01_k».proof.Proof.Claims

@[expose] public section

noncomputable section

namespace Cert.Proof

open Cert.Craft

/-- The kernel, its idealization and the reference run and keep their arguments; the idealization is the kernel's own
    text; and under the precondition the idealization's four results are the reference's. -/
theorem claim : Cert.Claim :=
  ⟨Cert.Kernel.Gen.facts, Cert.KernelIdeal.Gen.facts, Cert.ReferenceIdeal.Gen.facts, preFacts,
    frame_kernel, frame_ideal, frame_ideal_pre, frame_reference, frame_reference_pre, trivial, algebraic⟩

end Cert.Proof

end
